-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale2" .f32 0x3E38AA3B#32 (((Real.log 2)⁻¹ * (Real.sqrt 64)⁻¹ : ℝ) : EReal)

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_logits_finite : Cert.Pre_logits_finite.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ preserves_Kernel_KernelIdeal
    ∧ algebraic_KernelIdeal_ReferenceIdeal_pre_logits_finite (hKernelIdeal := hKernelIdeal) (hReferenceIdeal := hReferenceIdeal) (hPre_logits_finite := hPre_logits_finite)
-- ==== Pre_logits_finite.lean ====
abbrev S1x1536x4096 : Shape := ⟨3, ![1, 1536, 4096]⟩
abbrev S512 : Shape := ⟨1, ![512]⟩
abbrev S1536x512 : Shape := ⟨2, ![1536, 512]⟩
abbrev S8x192x4096 : Shape := ⟨3, ![8, 192, 4096]⟩
abbrev S8x128x4096 : Shape := ⟨3, ![8, 128, 4096]⟩
abbrev S8x192x512 : Shape := ⟨3, ![8, 192, 512]⟩
abbrev S8x128x512 : Shape := ⟨3, ![8, 128, 512]⟩
abbrev S_ : Shape := ⟨0, ![]⟩

class Facts : Prop where
  shapeCasts_S1x1536x4096_S8x192x4096 : S1x1536x4096.ShapeCasts S8x192x4096
  slices_S8x192x4096_S8x128x4096_0_0_0 : S8x192x4096.Slices ![0, 0, 0] S8x128x4096
  shapeCasts_S1536x512_S8x192x512 : S1536x512.ShapeCasts S8x192x512
  slices_S8x192x512_S8x128x512_0_0_0 : S8x192x512.Slices ![0, 0, 0] S8x128x512
  bcast_S_S8x128x4096 : S_.BroadcastsInDim S8x128x4096 (![] : Fin 0 → Fin S8x128x4096.rank)
  bcast_S_S8x128x512 : S_.BroadcastsInDim S8x128x512 (![] : Fin 0 → Fin S8x128x512.rank)
  bcast_S_S512 : S_.BroadcastsInDim S512 (![] : Fin 0 → Fin S512.rank)

variable [Facts]

def fn {F : FTy → Type} [FloatOps F] (main_arg0 : FVec F S1x1536x4096 .f32) (main_arg1 : FVec F S512 .f32) (main_arg2 : FVec F S1536x512 .f32) : IVec S8x128x4096 1 × IVec S8x128x512 1 × IVec S512 1 :=
  let main_v0 : FVec F S8x192x4096 .f32 := shapeCast S8x192x4096 main_arg0 shapeCasts_S1x1536x4096_S8x192x4096
  let main_v1 : FVec F S8x128x4096 .f32 := (extractStridedSlice S8x128x4096 ![0, 0, 0] · slices_S8x192x4096_S8x128x4096_0_0_0) main_v0
  let main_v2 : FVec F S8x192x512 .f32 := shapeCast S8x192x512 main_arg2 shapeCasts_S1536x512_S8x192x512
  let main_v3 : FVec F S8x128x512 .f32 := (extractStridedSlice S8x128x512 ![0, 0, 0] · slices_S8x192x512_S8x128x512_0_0_0) main_v2
  let main_v4 : FVec F S8x128x4096 .f32 := Host.absf main_v1
  let main_cst : FVec F S_ .f32 := constant S_ .f32 0x7F800000#32
  let main_v5 : FVec F S8x128x4096 .f32 := broadcastInDim S8x128x4096 ![] bcast_S_S8x128x4096 main_cst
  let main_v6 : IVec S8x128x4096 1 := cmpf .olt main_v4 main_v5
  let main_v7 : FVec F S8x128x512 .f32 := Host.absf main_v3
  let main_cst_0 : FVec F S_ .f32 := constant S_ .f32 0x7F800000#32
  let main_v8 : FVec F S8x128x512 .f32 := broadcastInDim S8x128x512 ![] bcast_S_S8x128x512 main_cst_0
  let main_v9 : IVec S8x128x512 1 := cmpf .olt main_v7 main_v8
  let main_v10 : FVec F S512 .f32 := Host.absf main_arg1
  let main_cst_1 : FVec F S_ .f32 := constant S_ .f32 0x7F800000#32
  let main_v11 : FVec F S512 .f32 := broadcastInDim S512 ![] bcast_S_S512 main_cst_1
  let main_v12 : IVec S512 1 := cmpf .olt main_v10 main_v11
  (main_v6, main_v9, main_v12)
-- ==== Kernel.lean ====
abbrev S1x1536x4096 : Shape := ⟨3, ![1, 1536, 4096]⟩
abbrev S512 : Shape := ⟨1, ![512]⟩
abbrev S1536x512 : Shape := ⟨2, ![1536, 512]⟩
abbrev S8x192x4096 : Shape := ⟨3, ![8, 192, 4096]⟩
abbrev S1x512 : Shape := ⟨2, ![1, 512]⟩
abbrev S8x192x512 : Shape := ⟨3, ![8, 192, 512]⟩
abbrev S8x64x4096 : Shape := ⟨3, ![8, 64, 4096]⟩
abbrev S1x192x512 : Shape := ⟨3, ![1, 192, 512]⟩
abbrev S1x64x2048 : Shape := ⟨3, ![1, 64, 2048]⟩
abbrev S1x64x4096 : Shape := ⟨3, ![1, 64, 4096]⟩
abbrev S192x512 : Shape := ⟨2, ![192, 512]⟩
abbrev S192x1 : Shape := ⟨2, ![192, 1]⟩
abbrev S64x2048 : Shape := ⟨2, ![64, 2048]⟩
abbrev S64x1 : Shape := ⟨2, ![64, 1]⟩
abbrev S64x4096 : Shape := ⟨2, ![64, 4096]⟩
abbrev S1x4096 : Shape := ⟨2, ![1, 4096]⟩
abbrev S65x4096 : Shape := ⟨2, ![65, 4096]⟩
abbrev S2048x4096 : Shape := ⟨2, ![2048, 4096]⟩
abbrev S2048 : Shape := ⟨1, ![2048]⟩
abbrev S2048x1 : Shape := ⟨2, ![2048, 1]⟩
abbrev S65x2048 : Shape := ⟨2, ![65, 2048]⟩
abbrev S1x2048 : Shape := ⟨2, ![1, 2048]⟩
abbrev S1x512x4096 : Shape := ⟨3, ![1, 512, 4096]⟩

abbrev nBuf : Space → Nat
  | .hbm => 8
  | .vmem => 11
  | .smem => 0
  | _ => 0

abbrev bufTy : (tb : Table) → Fin (tcTables nBuf tb) → BufTy
  | .hbm, ⟨0, _⟩ => ⟨S1x1536x4096, .f32⟩
  | .hbm, ⟨1, _⟩ => ⟨S512, .f32⟩
  | .hbm, ⟨2, _⟩ => ⟨S1536x512, .f32⟩
  | .hbm, ⟨3, _⟩ => ⟨S8x192x4096, .f32⟩
  | .hbm, ⟨4, _⟩ => ⟨S1x512, .f32⟩
  | .hbm, ⟨5, _⟩ => ⟨S8x192x512, .f32⟩
  | .hbm, ⟨6, _⟩ => ⟨S8x64x4096, .f32⟩
  | .hbm, ⟨7, _⟩ => ⟨S1x512x4096, .f32⟩
  | .local _ .vmem, ⟨0, _⟩ => ⟨S1x512, .f32⟩
  | .local _ .vmem, ⟨1, _⟩ => ⟨S1x192x512, .f32⟩
  | .local _ .vmem, ⟨2, _⟩ => ⟨S1x192x512, .f32⟩
  | .local _ .vmem, ⟨3, _⟩ => ⟨S1x64x2048, .f32⟩
  | .local _ .vmem, ⟨4, _⟩ => ⟨S1x64x2048, .f32⟩
  | .local _ .vmem, ⟨5, _⟩ => ⟨S1x64x4096, .f32⟩
  | .local _ .vmem, ⟨6, _⟩ => ⟨S1x64x4096, .f32⟩
  | .local _ .vmem, ⟨7, _⟩ => ⟨S1x64x4096, .f32⟩
  | .local _ .vmem, ⟨8, _⟩ => ⟨S1x64x4096, .f32⟩
  | .local _ .vmem, ⟨9, _⟩ => ⟨S1x64x2048, .f32⟩
  | .local _ .vmem, ⟨10, _⟩ => ⟨S1x64x2048, .f32⟩
  | _, _ => ⟨S1x1536x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "scale2" => some (((Real.log 2)⁻¹ * (Real.sqrt 64)⁻¹ : ℝ) : EReal)
  | _ => none
-- ==== ReferenceIdeal.lean ====
abbrev S1x1536x4096 : Shape := ⟨3, ![1, 1536, 4096]⟩
abbrev S512 : Shape := ⟨1, ![512]⟩
abbrev S1536x512 : Shape := ⟨2, ![1536, 512]⟩
abbrev S_ : Shape := ⟨0, ![]⟩
abbrev S8x192x4096 : Shape := ⟨3, ![8, 192, 4096]⟩
abbrev S8x64x4096 : Shape := ⟨3, ![8, 64, 4096]⟩
abbrev S1x512x1 : Shape := ⟨3, ![1, 512, 1]⟩
abbrev S1x512x4096 : Shape := ⟨3, ![1, 512, 4096]⟩
abbrev S1x4096x1536 : Shape := ⟨3, ![1, 4096, 1536]⟩
abbrev S8x4096x4096 : Shape := ⟨3, ![8, 4096, 4096]⟩
abbrev S8x4096 : Shape := ⟨2, ![8, 4096]⟩
abbrev S8x4096x1 : Shape := ⟨3, ![8, 4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S1x1536x4096, .f32⟩
  | .hbm, ⟨1, _⟩ => ⟨S512, .f32⟩
  | .hbm, ⟨2, _⟩ => ⟨S1536x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x192x4096, .f32⟩
  | .hbm, ⟨9, _⟩ => ⟨S8x64x4096, .f32⟩
  | .hbm, ⟨10, _⟩ => ⟨S8x64x4096, .f32⟩
  | .hbm, ⟨11, _⟩ => ⟨S8x64x4096, .f32⟩
  | .hbm, ⟨12, _⟩ => ⟨S1x512x1, .f32⟩
  | .hbm, ⟨13, _⟩ => ⟨S1x512x4096, .f32⟩
  | .hbm, ⟨14, _⟩ => ⟨S1x4096x1536, .f32⟩
  | .hbm, ⟨15, _⟩ => ⟨S1x1536x4096, .f32⟩
  | .hbm, ⟨16, _⟩ => ⟨S8x192x4096, .f32⟩
  | .hbm, ⟨17, _⟩ => ⟨S8x64x4096, .f32⟩
  | .hbm, ⟨18, _⟩ => ⟨S8x64x4096, .f32⟩
  | .hbm, ⟨19, _⟩ => ⟨S8x64x4096, .f32⟩
  | .hbm, ⟨20, _⟩ => ⟨S8x64x4096, .f32⟩
  | .hbm, ⟨21, _⟩ => ⟨S8x64x4096, .f32⟩
  | .hbm, ⟨22, _⟩ => ⟨S8x64x4096, .f32⟩
  | .hbm, ⟨23, _⟩ => ⟨S8x64x4096, .f32⟩
  | .hbm, ⟨24, _⟩ => ⟨S8x64x4096, .f32⟩
  | .hbm, ⟨25, _⟩ => ⟨S8x64x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x64x4096, .f32⟩
  | .hbm, ⟨42, _⟩ => ⟨S8x64x4096, .f32⟩
  | .hbm, ⟨43, _⟩ => ⟨S1x512x4096, .f32⟩
  | _, _ => ⟨S1x1536x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Proof.Consts.lean ====
/- The float constants the two programs spell, as the extended reals their patterns denote at the ideal instance. One
   module states them, so that the unfolding of the bit patterns happens here and nowhere else. -/
module

public import Idealize.ShloMosaic.PureOps.Ideal

@[expose] public section

noncomputable section

namespace Cert.AttnConsts

open Idealize.ShloMosaic

/-- The pattern of `1.0` denotes one. -/
theorem one_f32 : Ideal.ofBits .f32 0x3F800000#32 = 1 := by
  have h : Ideal.ofBits .f32 0x3F800000#32 = ((1 : ℝ) : EReal) := by
    simp [Ideal.ofBits, Ideal.ieee, -EReal.coe_mul]; norm_num
  rw [h, EReal.coe_one]

/-- The pattern of `64.0`, the number of channels of a head, denotes sixty-four. -/
theorem sixtyfour_f32 : Ideal.ofBits .f32 0x42800000#32 = ((64 : ℝ) : EReal) := by
  simp [Ideal.ofBits, Ideal.ieee, -EReal.coe_mul]; norm_num

/-- The pattern of minus infinity denotes the bottom. -/
theorem neg_inf_f32 : Ideal.ofBits .f32 0xFF800000#32 = ⊥ := by
  simp [Ideal.ofBits, Ideal.ieee]

/-- The pattern of plus infinity denotes the top. -/
theorem pos_inf_f32 : Ideal.ofBits .f32 0x7F800000#32 = ⊤ := by
  simp [Ideal.ofBits, Ideal.ieee]

/-- The pattern of zero denotes zero. -/
theorem zero_f32 : Ideal.ofBits .f32 0x00000000#32 = 0 := by
  simp [Ideal.ofBits, Ideal.ieee]

end Cert.AttnConsts

end
-- ==== Proof.Softmax.lean ====
/- The mathematics of the claim, about extended reals only. Each row of logits is finite, so its maximum is one of its
   entries; shifting by it and raising two to the logits over `log 2` is the exponential of the shifted logits; and a
   weighted sum divided by the weights' sum at the end is the sum with the weights divided first. -/
module

public import Idealize.ShloMosaic.PureOps.Ideal
public import Idealize.ShloMosaic.PureOps.Ideal.Laws

@[expose] public section

noncomputable section

namespace Cert.AttnMath

open Idealize.ShloMosaic

variable {n : Nat}

/-- The maximum of a row, as both programs fold it: from the bottom, over every position. -/
def rowMax (f : Fin n → EReal) : EReal := (Finset.univ : Finset (Fin n)).fold max ⊥ f

/-- A row of reals whose entry at `s₀` is the largest has that entry for maximum. -/
theorem rowMax_of_largest (u : Fin n → ℝ) (s₀ : Fin n) (h : ∀ s, u s ≤ u s₀) :
    rowMax (fun s => (u s : EReal)) = (u s₀ : EReal) := by
  refine le_antisymm ?_ ?_
  · exact (Finset.fold_max_le _).mpr ⟨bot_le, fun s _ => EReal.coe_le_coe_iff.mpr (h s)⟩
  · exact (Finset.le_fold_max _).mpr (.inr ⟨s₀, Finset.mem_univ _, le_rfl⟩)

/-- A finite sum of reals, read in the extended reals. -/
theorem coe_sum {ι : Type} [Fintype ι] (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

/-- Multiplying a sum of extended reals by a nonnegative real on the right multiplies every term. -/
theorem sum_mul_coe {ι : Type} [Fintype ι] (f : ι → EReal) (r : ℝ) (hr : 0 ≤ r) :
    (∑ i, f i) * (r : EReal) = ∑ i, f i * (r : EReal) := by
  classical
  induction (Finset.univ : Finset ι) using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- Two to the power of a difference of logits over `log 2` is the exponential of the difference of the logits. -/
theorem two_pow_log (a b : ℝ) :
    Real.rpow 2 (a * (Real.log 2)⁻¹ - b * (Real.log 2)⁻¹) = Real.exp (a - b) := by
  have h2 : Real.log 2 ≠ 0 := ne_of_gt (Real.log_pos (by norm_num))
  show (2 : ℝ) ^ (a * (Real.log 2)⁻¹ - b * (Real.log 2)⁻¹) = _
  rw [Real.rpow_def_of_pos (by norm_num)]
  congr 1
  field_simp

/-- THE SOFTMAX IDENTITY. For real logits `w` and arbitrary extended-real values `v`: the values weighted by two to
    the power of the shifted logits over `log 2`, their sum times the reciprocal of the weights' sum, is the sum of
    the values times the softmax of the logits. -/
theorem softmax_eq [NeZero n] (w : Fin n → ℝ) (v : Fin n → EReal) :
    (∑ s, v s * Ideal.exp2 (((w s * (Real.log 2)⁻¹ : ℝ) : EReal) - rowMax fun s => ((w s * (Real.log 2)⁻¹ : ℝ) : EReal)))
        * Ideal.div 1 (∑ s, 1 * Ideal.exp2 (((w s * (Real.log 2)⁻¹ : ℝ) : EReal) - rowMax fun s => ((w s * (Real.log 2)⁻¹ : ℝ) : EReal)))
      = ∑ s, v s * Ideal.div (Ideal.exp ((w s : EReal) - rowMax fun s => (w s : EReal)))
          (∑ s, Ideal.exp ((w s : EReal) - rowMax fun s => (w s : EReal))) := by
  obtain ⟨s₀, -, h₀⟩ := Finset.exists_max_image (Finset.univ : Finset (Fin n)) w ⟨0, Finset.mem_univ _⟩
  have hinv : 0 ≤ (Real.log 2)⁻¹ := inv_nonneg.mpr (Real.log_nonneg (by norm_num))
  rw [rowMax_of_largest (fun s => w s * (Real.log 2)⁻¹) s₀ fun s => mul_le_mul_of_nonneg_right (h₀ s (Finset.mem_univ _)) hinv,
    rowMax_of_largest w s₀ fun s => h₀ s (Finset.mem_univ _)]
  have he2 : ∀ s, Ideal.exp2 (((w s * (Real.log 2)⁻¹ : ℝ) : EReal) - ((w s₀ * (Real.log 2)⁻¹ : ℝ) : EReal))
      = ((Real.exp (w s - w s₀) : ℝ) : EReal) := fun s => by
    rw [← EReal.coe_sub, ← two_pow_log]; rfl
  have he : ∀ s, Ideal.exp ((w s : EReal) - (w s₀ : EReal)) = ((Real.exp (w s - w s₀) : ℝ) : EReal) := fun s => by
    rw [← EReal.coe_sub]; rfl
  simp only [he2, he, one_mul, coe_sum]
  have hL : 0 < ∑ s, Real.exp (w s - w s₀) :=
    Finset.sum_pos (fun s _ => Real.exp_pos _) ⟨s₀, Finset.mem_univ _⟩
  have hd : ∀ x : ℝ, Ideal.div (x : EReal) ((∑ s, Real.exp (w s - w s₀) : ℝ) : EReal)
      = ((x * (∑ s, Real.exp (w s - w s₀))⁻¹ : ℝ) : EReal) := fun x => by
    rw [Ideal.div_coe hL.ne', ← EReal.coe_mul, one_div]
  rw [← EReal.coe_one, hd, one_mul, sum_mul_coe _ _ (inv_nonneg.mpr hL.le)]
  refine Finset.sum_congr rfl fun s _ => ?_
  rw [hd, EReal.coe_mul, mul_assoc]

/-- The kernel's logit: queries scaled once by `(log 2)⁻¹ (√64)⁻¹`. -/
theorem kernel_logit (q k : Fin 64 → ℝ) :
    ∑ c, ((q c : EReal) * (((Real.log 2)⁻¹ * (Real.sqrt 64)⁻¹ : ℝ) : EReal)) * (k c : EReal)
      = (((∑ c, q c * k c) / 8 * (Real.log 2)⁻¹ : ℝ) : EReal) := by
  have h64 : Real.sqrt 64 = 8 := by
    rw [show (64 : ℝ) = 8 ^ 2 by norm_num]; exact Real.sqrt_sq (by norm_num)
  simp only [← EReal.coe_mul, coe_sum]
  congr 1
  rw [Finset.sum_div, Finset.sum_mul]
  refine Finset.sum_congr rfl fun c _ => ?_
  rw [h64]; ring

/-- The reference's logit: queries and keys each scaled by the reciprocal of the root of the root of sixty-four. -/
theorem reference_logit (q k : Fin 64 → ℝ) :
    ∑ c, ((q c : EReal) * ((1 / Real.sqrt (Real.sqrt 64) : ℝ) : EReal)) * ((k c : EReal) * ((1 / Real.sqrt (Real.sqrt 64) : ℝ) : EReal))
      = (((∑ c, q c * k c) / 8 : ℝ) : EReal) := by
  have h64 : Real.sqrt 64 = 8 := by
    rw [show (64 : ℝ) = 8 ^ 2 by norm_num]; exact Real.sqrt_sq (by norm_num)
  have h8 : Real.sqrt 8 * Real.sqrt 8 = 8 := Real.mul_self_sqrt (by norm_num)
  have h8' : Real.sqrt 8 ≠ 0 := fun h => by rw [h] at h8; norm_num at h8
  simp only [← EReal.coe_mul, coe_sum]
  congr 1
  rw [Finset.sum_div]
  refine Finset.sum_congr rfl fun c _ => ?_
  rw [h64]
  have : (1 / Real.sqrt 8) * (1 / Real.sqrt 8) = 1 / 8 := by
    rw [div_mul_div_comm, h8, one_mul]
  calc q c * (1 / Real.sqrt 8) * (k c * (1 / Real.sqrt 8))
      = q c * k c * ((1 / Real.sqrt 8) * (1 / Real.sqrt 8)) := by ring
    _ = q c * k c / 8 := by rw [this]; ring

/-- The reference's scale as it computes it. -/
theorem reference_scale :
    Ideal.div 1 (Ideal.sqrt (Ideal.sqrt ((64 : ℝ) : EReal))) = ((1 / Real.sqrt (Real.sqrt 64) : ℝ) : EReal) := by
  have h : Real.sqrt (Real.sqrt 64) ≠ 0 := ne_of_gt (Real.sqrt_pos.mpr (Real.sqrt_pos.mpr (by norm_num)))
  rw [Ideal.sqrt_coe, if_neg (by norm_num), Ideal.sqrt_coe, if_neg (not_lt.mpr (Real.sqrt_nonneg _)), Ideal.div_coe h, one_mul]

/-- A sum of products of finite extended reals is finite. -/
theorem exists_real_sum {ι : Type} [Fintype ι] (f g : ι → EReal) (hf : ∀ i, ∃ r : ℝ, f i = r) (hg : ∀ i, ∃ r : ℝ, g i = r) :
    ∃ r : ℝ, ∑ i, f i * g i = (r : EReal) := by
  choose a ha using hf
  choose b hb using hg
  refine ⟨∑ i, a i * b i, ?_⟩
  simp only [ha, hb, ← EReal.coe_mul, coe_sum]

/-- An extended real whose absolute value is below the top is a real. -/
theorem exists_real_of_abs_lt (a : EReal) (h : max a (-a) < ⊤) : ∃ r : ℝ, a = r := by
  induction a using EReal.rec with
  | bot => exact absurd h (by simp)
  | coe r => exact ⟨r, rfl⟩
  | top => exact absurd h (by simp)

end Cert.AttnMath

end
-- ==== Proof.Spec.lean ====
/- The two formulas of attention the two programs compute, as functions of the three argument arrays at the extended
   reals, index by index; and the equation between them where the logits are finite. -/
module

public import proofs.«01_k».proof.Proof.Softmax
public import Idealize.ShloMosaic.Lib.ValueIdx

@[expose] public section

noncomputable section

namespace Cert.AttnSpec

open Idealize.ShloMosaic Idealize.ShloMosaic.ValueIdx Cert.AttnMath

/-- The value of the named constant `scale2`: the reciprocal of `log 2` times the reciprocal root of sixty-four. -/
def gamma : EReal := (((Real.log 2)⁻¹ * (Real.sqrt 64)⁻¹ : ℝ) : EReal)

/-- The scale the reference computes: one over the root of the root of sixty-four. -/
def sigma : EReal := Ideal.div 1 (Ideal.sqrt (Ideal.sqrt ((64 : ℝ) : EReal)))

/-- Row `o` of head `h` among the 1536 rows: 192 rows per head. -/
abbrev row (h : Fin 8) (o : Fin 192) : Fin 1536 := ⟨h.val * 192 + o.val, by omega⟩

/-- Channel `c` of the queries among a head's 192 rows. -/
abbrev qRow (c : Fin 64) : Fin 192 := ⟨c.val, by omega⟩
/-- Channel `c` of the keys. -/
abbrev kRow (c : Fin 64) : Fin 192 := ⟨64 + c.val, by omega⟩
/-- Channel `c` of the values. -/
abbrev vRow (c : Fin 64) : Fin 192 := ⟨128 + c.val, by omega⟩

variable (x0 : (⟨3, ![1, 1536, 4096]⟩ : Shape).Idx → EReal) (x1 : (⟨1, ![512]⟩ : Shape).Idx → EReal)
  (x2 : (⟨2, ![1536, 512]⟩ : Shape).Idx → EReal)

/-- The bias of a head's row: the prompt's projection of the embedding. -/
def bias (h : Fin 8) (o : Fin 192) : EReal := ∑ d : Fin 512, x2 (ix2 (row h o) d) * x1 (ix1 d)

/-- A head's row at a position, biased. -/
def tok (h : Fin 8) (o : Fin 192) (t : Fin 4096) : EReal := x0 (ix3 0 (row h o) t) + bias x1 x2 h o

/-- The kernel's logit of query position `t` against key position `s`. -/
def kLogit (h : Fin 8) (t s : Fin 4096) : EReal :=
  ∑ c : Fin 64, (tok x0 x1 x2 h (qRow c) t * gamma) * tok x0 x1 x2 h (kRow c) s

/-- The reference's logit of query position `t` against key position `s`. -/
def rLogit (h : Fin 8) (t s : Fin 4096) : EReal :=
  ∑ c : Fin 64, (tok x0 x1 x2 h (qRow c) t * sigma) * (tok x0 x1 x2 h (kRow c) s * sigma)

/-- What the kernel computes for head `h`, channel `c`, position `t`. -/
def kernelOut (h : Fin 8) (c : Fin 64) (t : Fin 4096) : EReal :=
  (∑ s : Fin 4096, tok x0 x1 x2 h (vRow c) s * Ideal.exp2 (kLogit x0 x1 x2 h t s - rowMax (kLogit x0 x1 x2 h t)))
    * Ideal.div 1 (∑ s : Fin 4096, 1 * Ideal.exp2 (kLogit x0 x1 x2 h t s - rowMax (kLogit x0 x1 x2 h t)))

/-- What the reference computes for head `h`, channel `c`, position `t`. -/
def refOut (h : Fin 8) (c : Fin 64) (t : Fin 4096) : EReal :=
  ∑ s : Fin 4096, tok x0 x1 x2 h (vRow c) s * Ideal.div (Ideal.exp (rLogit x0 x1 x2 h t s - rowMax (rLogit x0 x1 x2 h t)))
    (∑ s : Fin 4096, Ideal.exp (rLogit x0 x1 x2 h t s - rowMax (rLogit x0 x1 x2 h t)))

/-- Finite queries, keys and projections make every biased row of the queries and keys real. -/
theorem exists_real_tok (h : Fin 8) (o : Fin 192) (t : Fin 4096) (h0 : ∃ r : ℝ, x0 (ix3 0 (row h o) t) = r)
    (h1 : ∀ d, ∃ r : ℝ, x1 (ix1 d) = r) (h2 : ∀ d, ∃ r : ℝ, x2 (ix2 (row h o) d) = r) :
    ∃ r : ℝ, tok x0 x1 x2 h o t = r := by
  obtain ⟨a, ha⟩ := h0
  obtain ⟨b, hb⟩ := exists_real_sum (fun d : Fin 512 => x2 (ix2 (row h o) d)) (fun d => x1 (ix1 d)) h2 h1
  exact ⟨a + b, by unfold tok bias; rw [ha, hb, EReal.coe_add]⟩

/-- THE EQUATION: where the biased queries and keys of a head are real, both formulas give one value, whatever the
    values' rows hold. -/
theorem kernelOut_eq_refOut (h : Fin 8) (hq : ∀ c t, ∃ r : ℝ, tok x0 x1 x2 h (qRow c) t = r)
    (hk : ∀ c t, ∃ r : ℝ, tok x0 x1 x2 h (kRow c) t = r) (c : Fin 64) (t : Fin 4096) :
    kernelOut x0 x1 x2 h c t = refOut x0 x1 x2 h c t := by
  choose q hq using hq
  choose k hk using hk
  have hK : kLogit x0 x1 x2 h t = fun s => (((∑ c, q c t * k c s) / 8 * (Real.log 2)⁻¹ : ℝ) : EReal) := funext fun s => by
    unfold kLogit gamma
    simp only [hq, hk]
    exact kernel_logit (fun c => q c t) fun c => k c s
  have hR : rLogit x0 x1 x2 h t = fun s => (((∑ c, q c t * k c s) / 8 : ℝ) : EReal) := funext fun s => by
    unfold rLogit sigma
    simp only [hq, hk, reference_scale]
    exact reference_logit (fun c => q c t) fun c => k c s
  unfold kernelOut refOut
  rw [hK, hR]
  exact softmax_eq (fun s => (∑ c, q c t * k c s) / 8) fun s => tok x0 x1 x2 h (vRow c) s

end Cert.AttnSpec

end
-- ==== Proof.KernelBlock.lean ====
/- What one grid point of the kernel computes. The five blocks it is given are: the head's projection weights
   (192 rows of 512), the embedding (512), the queries' tile (64 channels, 2048 positions), the keys and the values
   (64 channels, 4096 positions). The body is cut into its stages — the bias column, the biased and scaled queries,
   the biased keys, the biased values over a row of ones, the logits, the weights — and each stage is read at an index. -/
module

public import proofs.«01_k».proof.Proof.Gen.KernelIdeal.Skeleton
public import proofs.«01_k».proof.Proof.Consts
public import proofs.«01_k».proof.Proof.Spec
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain

@[expose] public section

noncomputable section

namespace Cert.AttnKernel

open Idealize.ShloMosaic Idealize.SL.Sem Cert.KernelIdeal Cert.KernelIdeal.Gen Cert.AttnMath
open Idealize.ShloMosaic.ValueIdx
open Cert.AttnSpec (gamma)

variable (W : FVec Ideal S1x192x512 .f32) (ne : FVec Ideal S1x512 .f32) (q : FVec Ideal S1x64x2048 .f32)
  (k v : FVec Ideal S1x64x4096 .f32)

/-! ## The stages -/

/-- The head's bias column: its projection weights times the embedding. -/
def biasCol : FVec Ideal S192x1 .f32 :=
  matmul dot_S192x512_S1x512_S192x1_1_1_0_0_n_n none (shapeCast S192x512 W shapeCasts_S1x192x512_S192x512 : FVec Ideal S192x512 .f32)
    (shapeCast S1x512 ne shapeCasts_S1x512_S1x512 : FVec Ideal S1x512 .f32) (constant S192x1 .f32 0x00000000#32)

/-- The queries' tile, biased and scaled. -/
def queries : FVec Ideal S64x2048 .f32 :=
  mulf (addf (shapeCast S64x2048 q shapeCasts_S1x64x2048_S64x2048 : FVec Ideal S64x2048 .f32)
      (broadcastTo S64x2048 (extractStridedSlice S64x1 ![0, 0] (biasCol W ne) slices_S192x1_o0_0_S64x1) broadcasts_S64x1_S64x2048))
    (broadcast S64x2048 (Named.named κ "scale2" 0x3E38AA3B#32 : Ideal .f32))

/-- The keys, biased. -/
def keys : FVec Ideal S64x4096 .f32 :=
  addf (shapeCast S64x4096 k shapeCasts_S1x64x4096_S64x4096 : FVec Ideal S64x4096 .f32)
    (broadcastTo S64x4096 (extractStridedSlice S64x1 ![64, 0] (biasCol W ne) slices_S192x1_o64_0_S64x1) broadcasts_S64x1_S64x4096)

/-- The values, biased. -/
def values : FVec Ideal S64x4096 .f32 :=
  addf (shapeCast S64x4096 v shapeCasts_S1x64x4096_S64x4096 : FVec Ideal S64x4096 .f32)
    (broadcastTo S64x4096 (extractStridedSlice S64x1 ![128, 0] (biasCol W ne) slices_S192x1_o128_0_S64x1) broadcasts_S64x1_S64x4096)

/-- The row of ones laid under the values. -/
def onesRow : FVec Ideal S1x4096 .f32 := broadcast S1x4096 (Scalar.ofBits .f32 0x3F800000#32 : Ideal .f32)

/-- The values with the row of ones under them. -/
def valuesOnes : FVec Ideal S65x4096 .f32 :=
  concatenate S65x4096 0 [⟨S64x4096, values W ne v⟩, ⟨S1x4096, onesRow⟩] concatenates_S64x4096_S1x4096_S65x4096_d0

/-- The logits: the scaled queries against the keys. -/
def logits : FVec Ideal S2048x4096 .f32 :=
  matmul dot_S64x2048_S64x4096_S2048x4096_0_0_1_1_n_n none (truncf .bf16 (queries W ne q) bitsLt_bf16_f32)
    (truncf .bf16 (keys W ne k) bitsLt_bf16_f32) (constant S2048x4096 .f32 0x00000000#32)

/-- The maximum of every row of logits. -/
def rowMaxes : FVec Ideal S2048 .f32 :=
  multiReduction .maximumf [1] S2048 (logits W ne q k) 0xFF800000#32 reduces_S2048x4096_S2048 (.inl rfl) rfl

/-- The weights: two to the power of the logits less their row's maximum. -/
def weights : FVec Ideal S2048x4096 .f32 :=
  exp2 (subf (logits W ne q k)
    (broadcastTo S2048x4096 (shapeCast S2048x1 (rowMaxes W ne q k) shapeCasts_S2048_S2048x1 : FVec Ideal S2048x1 .f32)
      broadcasts_S2048x1_S2048x4096))

/-- The body's long payload is the last product of these stages. -/
theorem pay2_eq : k0_pay2 W ne q k v = matmul (φ₁ := .f32) (φ₂ := .f32) dot_S65x4096_S2048x4096_S65x2048_1_1_0_0_n_n none (valuesOnes W ne v)
    (weights W ne q k) (constant S65x2048 .f32 0x00000000#32) := rfl

/-! ## The stages at an index -/

/-- A column broadcast along its rows reads the column. -/
theorem broadcast_col {a b : Nat} (ha : a ≠ 1) (x : (⟨2, ![a, 1]⟩ : Shape).Idx → EReal)
    (h : (⟨2, ![a, 1]⟩ : Shape).Broadcasts ⟨2, ![a, b]⟩) (i : Fin a) (j : Fin b) :
    broadcastTo ⟨2, ![a, b]⟩ x h (ix2 i j) = x (ix2 i 0) :=
  broadcastTo_apply x h (ix2 i j) (ix2 i 0) fun ax => match ax with
    | ⟨0, _⟩ => by show i.val = if a = 1 then 0 else i.val; rw [if_neg ha]
    | ⟨1, _⟩ => rfl

/-- The bias of row `o`: the sum over the embedding's width of the weight times the embedding. -/
def bias (o : Fin 192) : EReal := ∑ d : Fin 512, W (ix3 0 o d) * ne (ix2 0 d)

/-- The bias column at row `o`. -/
theorem biasCol_apply (o : Fin 192) : biasCol W ne (ix2 o 0) = bias W ne o := by
  unfold biasCol bias
  simp only [matmul]
  refine (Ideal.matmul_transposedRhs_apply (M := 192) (K := 512) (N := 1) none _ _ _ o 0).trans ?_
  rw [constant_apply, AttnConsts.zero_f32, zero_add]
  refine Finset.sum_congr rfl fun d _ => ?_
  rw [shapeCast_1ab_ab_apply, shapeCast_self]

/-- The named constant at the extended reals. -/
theorem scale2_eq : (Named.named κ "scale2" 0x3E38AA3B#32 : Ideal .f32) = gamma :=
  IdealRules.named_const.ideal_named_scalar _ _ _ _ rfl

/-- A query, biased and scaled, at channel `c` and position `i`. -/
theorem queries_apply (c : Fin 64) (i : Fin 2048) :
    queries W ne q (ix2 c i) = (q (ix3 0 c i) + bias W ne ⟨c.val, by omega⟩) * gamma := by
  unfold queries
  rw [mulf_apply, addf_apply, broadcast_apply, scale2_eq, broadcast_col (by decide), shapeCast_1ab_ab_apply,
    slice2_axis0_apply 0 _ _ c 0 ⟨c.val, by omega⟩ (by show c.val = 0 + c.val; omega), biasCol_apply]

/-- A key, biased, at channel `c` and position `s`. -/
theorem keys_apply (c : Fin 64) (s : Fin 4096) :
    keys W ne k (ix2 c s) = k (ix3 0 c s) + bias W ne ⟨64 + c.val, by omega⟩ := by
  unfold keys
  rw [addf_apply, broadcast_col (by decide), shapeCast_1ab_ab_apply,
    slice2_axis0_apply 64 _ _ c 0 ⟨64 + c.val, by omega⟩ rfl, biasCol_apply]

/-- A value, biased, at channel `c` and position `s`. -/
theorem values_apply (c : Fin 64) (s : Fin 4096) :
    values W ne v (ix2 c s) = v (ix3 0 c s) + bias W ne ⟨128 + c.val, by omega⟩ := by
  unfold values
  rw [addf_apply, broadcast_col (by decide), shapeCast_1ab_ab_apply,
    slice2_axis0_apply 128 _ _ c 0 ⟨128 + c.val, by omega⟩ rfl, biasCol_apply]

/-- The first 64 rows of the stacked array are the values. -/
theorem valuesOnes_value (c : Fin 64) (s : Fin 4096) :
    valuesOnes W ne v (ix2 ⟨c.val, by omega⟩ s) = values W ne v (ix2 c s) := by
  unfold valuesOnes
  generalize values W ne v = x
  generalize onesRow = y
  exact concatenate_pair_apply_left 0 x y concatenates_S64x4096_S1x4096_S65x4096_d0 _ rfl (ix2 c s)
    fun b => match b with | ⟨0, _⟩ => rfl | ⟨1, _⟩ => rfl

/-- Its last row is one everywhere. -/
theorem valuesOnes_one (s : Fin 4096) : valuesOnes W ne v (ix2 ⟨64, by omega⟩ s) = 1 := by
  have h : valuesOnes W ne v (ix2 ⟨64, by omega⟩ s) = onesRow (ix2 0 s) := by
    unfold valuesOnes
    generalize values W ne v = x
    generalize onesRow = y
    exact concatenate_pair_apply_right 0 x y concatenates_S64x4096_S1x4096_S65x4096_d0 _ rfl rfl (ix2 0 s)
      (fun b hb => match b, hb with | ⟨0, _⟩, hb => absurd rfl hb | ⟨1, _⟩, _ => rfl) rfl
  rw [h]
  exact AttnConsts.one_f32

/-- A logit: the sum over the channels of the scaled query times the key. -/
def logit (i : Fin 2048) (s : Fin 4096) : EReal :=
  ∑ c : Fin 64, ((q (ix3 0 c i) + bias W ne ⟨c.val, by omega⟩) * gamma) * (k (ix3 0 c s) + bias W ne ⟨64 + c.val, by omega⟩)

/-- The logits at a query's position and a key's position. -/
theorem logits_apply (i : Fin 2048) (s : Fin 4096) : logits W ne q k (ix2 i s) = logit W ne q k i s := by
  have main : ∀ (x : FVec Ideal S64x2048 .bf16) (y : FVec Ideal S64x4096 .bf16),
      matmul dot_S64x2048_S64x4096_S2048x4096_0_0_1_1_n_n none x y (constant S2048x4096 .f32 0x00000000#32) (ix2 i s)
        = ∑ c : Fin 64, x (ix2 c i) * y (ix2 c s) := fun x y => by
    simp only [matmul]
    rw [Ideal.matmul_constant_zero_apply,
      ← Equiv.sum_comp (contrEquiv1 dot_S64x2048_S64x4096_S2048x4096_0_0_1_1_n_n 64 rfl rfl).symm]
    refine Finset.sum_congr rfl fun c _ => ?_
    have hc := contrEquiv1_symm_val dot_S64x2048_S64x4096_S2048x4096_0_0_1_1_n_n 64 rfl rfl c
    have el : dot_S64x2048_S64x4096_S2048x4096_0_0_1_1_n_n.lhsIdx (ix2 i s)
        ((contrEquiv1 dot_S64x2048_S64x4096_S2048x4096_0_0_1_1_n_n 64 rfl rfl).symm c) = ix2 c i :=
      funext fun a => Fin.ext (by
        match a with
        | ⟨0, _⟩ => exact hc
        | ⟨1, _⟩ => rfl)
    have er : dot_S64x2048_S64x4096_S2048x4096_0_0_1_1_n_n.rhsIdx (ix2 i s)
        ((contrEquiv1 dot_S64x2048_S64x4096_S2048x4096_0_0_1_1_n_n 64 rfl rfl).symm c) = ix2 c s :=
      funext fun a => Fin.ext (by
        match a with
        | ⟨0, _⟩ => exact hc
        | ⟨1, _⟩ => rfl)
    rw [el, er]
  unfold logits logit
  rw [main]
  refine Finset.sum_congr rfl fun c _ => ?_
  rw [truncf_apply, truncf_apply, queries_apply, keys_apply]

/-- The maximum of the row of logits of a query's position. -/
theorem rowMaxes_apply (i : Fin 2048) : rowMaxes W ne q k (ix1 i) = rowMax (logit W ne q k i) := by
  unfold rowMaxes
  refine (Ideal.multiReduction_maximumf_single (a := (1 : Fin S2048x4096.rank)) (logits W ne q k) _ reduces_S2048x4096_S2048 (.inl rfl) rfl
    (ix1 i)).trans ?_
  show (Finset.univ : Finset (Fin 4096)).fold max (Ideal.ofBits .f32 0xFF800000#32) _ = _
  rw [AttnConsts.neg_inf_f32]
  unfold rowMax
  refine congrArg (fun f => (Finset.univ : Finset (Fin 4096)).fold max ⊥ f) (funext fun s => ?_)
  refine Eq.trans (congrArg (logits W ne q k) ?_) (logits_apply W ne q k i s)
  exact funext fun a => match a with | ⟨0, _⟩ => rfl | ⟨1, _⟩ => rfl

/-- A weight: two to the power of the logit less its row's maximum. -/
theorem weights_apply (i : Fin 2048) (s : Fin 4096) :
    weights W ne q k (ix2 i s) = Ideal.exp2 (logit W ne q k i s - rowMax (logit W ne q k i)) := by
  unfold weights
  show Ideal.exp2 (logits W ne q k (ix2 i s) - broadcastTo S2048x4096 _ broadcasts_S2048x1_S2048x4096 (ix2 i s)) = _
  rw [broadcast_col (by decide), shapeCast_a_a1_apply, logits_apply, rowMaxes_apply]

/-- The long payload at row `r` and position `i`: the stacked array's row against the weights. -/
theorem pay2_apply (r : Fin 65) (i : Fin 2048) :
    k0_pay2 W ne q k v (ix2 r i) = ∑ s : Fin 4096, valuesOnes W ne v (ix2 r s) *
      Ideal.exp2 (logit W ne q k i s - rowMax (logit W ne q k i)) := by
  rw [pay2_eq]
  simp only [matmul]
  refine (Ideal.matmul_transposedRhs_apply (M := 65) (K := 4096) (N := 2048) none _ _ _ r i).trans ?_
  rw [constant_apply, AttnConsts.zero_f32, zero_add]
  exact Finset.sum_congr rfl fun s _ => by rw [weights_apply]

/-- WHAT ONE GRID POINT WRITES at channel `c` and position `i`: the values weighted by two to the power of the shifted
    logits, times one over the sum of the weights. -/
theorem block_apply (c : Fin 64) (i : Fin 2048) :
    k0_pay1 (k0_pay3 W ne q k v) (k0_pay4 W ne q k v) (ix3 0 c i)
      = (∑ s : Fin 4096, (v (ix3 0 c s) + bias W ne ⟨128 + c.val, by omega⟩) *
            Ideal.exp2 (logit W ne q k i s - rowMax (logit W ne q k i)))
          * Ideal.div 1 (∑ s : Fin 4096, 1 * Ideal.exp2 (logit W ne q k i s - rowMax (logit W ne q k i))) := by
  unfold k0_pay1 k0_pay3 k0_pay4
  simp only []
  rw [shapeCast_ab_1ab_apply, mulf_apply, broadcastTo_1b_ab_apply, divf_apply, broadcast_apply,
    slice2_axis0_apply 0 _ _ c i ⟨c.val, by omega⟩ (by show c.val = 0 + c.val; omega),
    slice2_axis0_apply 64 _ _ 0 i ⟨64, by omega⟩ rfl, pay2_apply, pay2_apply]
  simp only [valuesOnes_value, valuesOnes_one, values_apply]
  rw [show (Scalar.ofBits .f32 0x3F800000#32 : Ideal .f32) = 1 from AttnConsts.one_f32]

end Cert.AttnKernel

end
-- ==== Proof.KernelArray.lean ====
/- What the kernel's arrays hold after the run: each window's block is a rectangle of an argument re-laid by the host's
   reshapes before the call; what a grid point writes back is one head's half of the attention formula; the sixteen
   blocks tile the output array; and the reshape after the call re-lays it as the result. -/
module

public import proofs.«01_k».proof.Proof.KernelBlock
public import proofs.«01_k».proof.Proof.Gen.KernelIdeal.Frame

@[expose] public section

noncomputable section

namespace Cert.AttnKernel

open Idealize.ShloMosaic Idealize.ShloMosaic.TcCoe Idealize.SL.Sem Cert.KernelIdeal Cert.KernelIdeal.Gen Cert.AttnMath
open Idealize.ShloMosaic.ValueIdx
open Idealize.ShloMosaic.Pipeline (Dat Window)
open Cert.AttnSpec (row qRow kRow vRow tok kernelOut kLogit)

variable (m : (ℓ : Loc nD τ sig) → Buf (Elt Ideal) ℓ) (ρ : Dev nD → PrngReg) (c : Dev nD)

/-- The arguments of device `c` as arrays of extended reals: the tokens. -/
abbrev a0 : S1x1536x4096.Idx → EReal := m ((c : Thread nD τ).loc main_arg0)
/-- The embedding. -/
abbrev a1 : S512.Idx → EReal := m ((c : Thread nD τ).loc main_arg1)
/-- The weights. -/
abbrev a2 : S1536x512.Idx → EReal := m ((c : Thread nD τ).loc main_arg2)

/-! ## The arrays the region reads -/

/-- The first reshape: the rows split by head. -/
theorem V_v0 : (V m c main_v0 : S8x192x4096.Idx → EReal) = shapeCast S8x192x4096 (a0 m c) shapeCasts_S1x1536x4096_S8x192x4096 := by
  unfold V V0 hostOps0
  simp only [List.flatten_cons, List.flatten_nil, List.append_nil, List.nil_append]
  after_results
  rfl

/-- The second: the embedding as one row. -/
theorem V_v1 : (V m c main_v1 : S1x512.Idx → EReal) = shapeCast S1x512 (a1 m c) shapeCasts_S512_S1x512 := by
  unfold V V0 hostOps0
  simp only [List.flatten_cons, List.flatten_nil, List.append_nil, List.nil_append]
  after_results
  rfl

/-- The third: the weights' rows split by head. -/
theorem V_v2 : (V m c main_v2 : S8x192x512.Idx → EReal) = shapeCast S8x192x512 (a2 m c) shapeCasts_S1536x512_S8x192x512 := by
  unfold V V0 hostOps0
  simp only [List.flatten_cons, List.flatten_nil, List.append_nil, List.nil_append]
  after_results
  rfl

/-- Head `h`, row `o`, position `t` of the tokens' array. -/
theorem V_v0_apply (h : Fin 8) (o : Fin 192) (t : Fin 4096) :
    (V m c main_v0 : S8x192x4096.Idx → EReal) (ix3 h o t) = a0 m c (ix3 0 (row h o) t) := by
  rw [V_v0]
  exact shapeCast_apply _ _ _ _ (by
    rw [Shape.rowMajor_val_three, Shape.rowMajor_val_three]
    show (0 * 1536 + (h.val * 192 + o.val)) * 4096 + t.val = (h.val * 192 + o.val) * 4096 + t.val
    omega)

/-- The embedding's row at `d`. -/
theorem V_v1_apply (d : Fin 512) : (V m c main_v1 : S1x512.Idx → EReal) (ix2 0 d) = a1 m c (ix1 d) := by
  rw [V_v1]
  exact shapeCast_a_1a_apply _ _ 0 d

/-- Head `h`, row `o`, coordinate `d` of the weights' array. -/
theorem V_v2_apply (h : Fin 8) (o : Fin 192) (d : Fin 512) :
    (V m c main_v2 : S8x192x512.Idx → EReal) (ix3 h o d) = a2 m c (ix2 (row h o) d) := by
  rw [V_v2]
  exact shapeCast_apply _ _ _ _ (by
    rw [Shape.rowMajor_val_three, Shape.rowMajor_val_two]
    show (h.val * 192 + o.val) * 512 + d.val = (h.val * 192 + o.val) * 512 + d.val
    rfl)

/-! ## The windows' blocks -/

/-- A grid point's head. -/
abbrev hd (t : Fin cfg0.N) : Fin 8 := ⟨t.val / 2, by have := N_0; have := t.isLt; have : cfg0.N = grid0.N := rfl; omega⟩
/-- A position of a grid point's half of the query positions. -/
abbrev pos (t : Fin cfg0.N) (i : Fin 2048) : Fin 4096 := ⟨(t.val % 2) * 2048 + i.val, by omega⟩

/-- The block indices at every grid point of the embedding's window. -/
theorem idx0 : ∀ t : Fin cfg0.N, win0_0.index t 0 = 0 ∧ win0_0.index t 1 = 0 :=
  (by decide +kernel : ∀ t : Fin grid0.N, win0_0.index t 0 = 0 ∧ win0_0.index t 1 = 0)
/-- The weights' window. -/
theorem idx1 : ∀ t : Fin cfg0.N, win0_1.index t 0 = t.val / 2 ∧ win0_1.index t 1 = 0 ∧ win0_1.index t 2 = 0 :=
  (by decide +kernel : ∀ t : Fin grid0.N, win0_1.index t 0 = t.val / 2 ∧ win0_1.index t 1 = 0 ∧ win0_1.index t 2 = 0)
/-- The queries' window. -/
theorem idx2 : ∀ t : Fin cfg0.N, win0_2.index t 0 = t.val / 2 ∧ win0_2.index t 1 = 0 ∧ win0_2.index t 2 = t.val % 2 :=
  (by decide +kernel : ∀ t : Fin grid0.N, win0_2.index t 0 = t.val / 2 ∧ win0_2.index t 1 = 0 ∧ win0_2.index t 2 = t.val % 2)
/-- The keys' window. -/
theorem idx3 : ∀ t : Fin cfg0.N, win0_3.index t 0 = t.val / 2 ∧ win0_3.index t 1 = 1 ∧ win0_3.index t 2 = 0 :=
  (by decide +kernel : ∀ t : Fin grid0.N, win0_3.index t 0 = t.val / 2 ∧ win0_3.index t 1 = 1 ∧ win0_3.index t 2 = 0)
/-- The values' window. -/
theorem idx4 : ∀ t : Fin cfg0.N, win0_4.index t 0 = t.val / 2 ∧ win0_4.index t 1 = 2 ∧ win0_4.index t 2 = 0 :=
  (by decide +kernel : ∀ t : Fin grid0.N, win0_4.index t 0 = t.val / 2 ∧ win0_4.index t 1 = 2 ∧ win0_4.index t 2 = 0)
/-- The output's window. -/
theorem idx5 : ∀ t : Fin cfg0.N, win0_5.index t 0 = t.val / 2 ∧ win0_5.index t 1 = 0 ∧ win0_5.index t 2 = t.val % 2 :=
  (by decide +kernel : ∀ t : Fin grid0.N, win0_5.index t 0 = t.val / 2 ∧ win0_5.index t 1 = 0 ∧ win0_5.index t 2 = t.val % 2)

/-- The embedding's block is the embedding. -/
theorem blk0_apply (t : Fin cfg0.N) (d : Fin 512) :
    (iblk m c 0 t : S1x512.Idx → EReal) (ix2 0 d) = a1 m c (ix1 d) := by
  refine Eq.trans ?_ (V_v1_apply m c d)
  show (V m c main_v1 : S1x512.Idx → EReal) ((win0_0.rect t).emb (ix2 0 d)) = _
  refine congrArg _ (funext fun a => Fin.ext ?_)
  refine (Window.rect_emb_val win0_0 t _ a).trans ?_
  match a with
  | ⟨0, _⟩ => show win0_0.index t 0 * 1 + 0 = 0; rw [(idx0 t).1]
  | ⟨1, _⟩ => show win0_0.index t 1 * 512 + d.val = d.val; rw [(idx0 t).2]; omega

/-- The weights' block is the head's rows of the weights. -/
theorem blk1_apply (t : Fin cfg0.N) (o : Fin 192) (d : Fin 512) :
    (iblk m c 1 t : S1x192x512.Idx → EReal) (ix3 0 o d) = a2 m c (ix2 (row (hd t) o) d) := by
  refine Eq.trans ?_ (V_v2_apply m c (hd t) o d)
  show (V m c main_v2 : S8x192x512.Idx → EReal) ((win0_1.rect t).emb (ix3 0 o d)) = _
  refine congrArg _ (funext fun a => Fin.ext ?_)
  refine (Window.rect_emb_val win0_1 t _ a).trans ?_
  match a with
  | ⟨0, _⟩ => show win0_1.index t 0 * 1 + 0 = t.val / 2; rw [(idx1 t).1]; omega
  | ⟨1, _⟩ => show win0_1.index t 1 * 192 + o.val = o.val; rw [(idx1 t).2.1]; omega
  | ⟨2, _⟩ => show win0_1.index t 2 * 512 + d.val = d.val; rw [(idx1 t).2.2]; omega

/-- The queries' block is the head's query rows at the point's half of the positions. -/
theorem blk2_apply (t : Fin cfg0.N) (j : Fin 64) (i : Fin 2048) :
    (iblk m c 2 t : S1x64x2048.Idx → EReal) (ix3 0 j i) = a0 m c (ix3 0 (row (hd t) (qRow j)) (pos t i)) := by
  refine Eq.trans ?_ (V_v0_apply m c (hd t) (qRow j) (pos t i))
  show (V m c main_v0 : S8x192x4096.Idx → EReal) ((win0_2.rect t).emb (ix3 0 j i)) = _
  refine congrArg _ (funext fun a => Fin.ext ?_)
  refine (Window.rect_emb_val win0_2 t _ a).trans ?_
  match a with
  | ⟨0, _⟩ => show win0_2.index t 0 * 1 + 0 = t.val / 2; rw [(idx2 t).1]; omega
  | ⟨1, _⟩ => show win0_2.index t 1 * 64 + j.val = j.val; rw [(idx2 t).2.1]; omega
  | ⟨2, _⟩ => show win0_2.index t 2 * 2048 + i.val = t.val % 2 * 2048 + i.val; rw [(idx2 t).2.2]

/-- The keys' block is the head's key rows at every position. -/
theorem blk3_apply (t : Fin cfg0.N) (j : Fin 64) (s : Fin 4096) :
    (iblk m c 3 t : S1x64x4096.Idx → EReal) (ix3 0 j s) = a0 m c (ix3 0 (row (hd t) (kRow j)) s) := by
  refine Eq.trans ?_ (V_v0_apply m c (hd t) (kRow j) s)
  show (V m c main_v0 : S8x192x4096.Idx → EReal) ((win0_3.rect t).emb (ix3 0 j s)) = _
  refine congrArg _ (funext fun a => Fin.ext ?_)
  refine (Window.rect_emb_val win0_3 t _ a).trans ?_
  match a with
  | ⟨0, _⟩ => show win0_3.index t 0 * 1 + 0 = t.val / 2; rw [(idx3 t).1]; omega
  | ⟨1, _⟩ => show win0_3.index t 1 * 64 + j.val = 64 + j.val; rw [(idx3 t).2.1]
  | ⟨2, _⟩ => show win0_3.index t 2 * 4096 + s.val = s.val; rw [(idx3 t).2.2]; omega

/-- The values' block is the head's value rows at every position. -/
theorem blk4_apply (t : Fin cfg0.N) (j : Fin 64) (s : Fin 4096) :
    (iblk m c 4 t : S1x64x4096.Idx → EReal) (ix3 0 j s) = a0 m c (ix3 0 (row (hd t) (vRow j)) s) := by
  refine Eq.trans ?_ (V_v0_apply m c (hd t) (vRow j) s)
  show (V m c main_v0 : S8x192x4096.Idx → EReal) ((win0_4.rect t).emb (ix3 0 j s)) = _
  refine congrArg _ (funext fun a => Fin.ext ?_)
  refine (Window.rect_emb_val win0_4 t _ a).trans ?_
  match a with
  | ⟨0, _⟩ => show win0_4.index t 0 * 1 + 0 = t.val / 2; rw [(idx4 t).1]; omega
  | ⟨1, _⟩ => show win0_4.index t 1 * 64 + j.val = 128 + j.val; rw [(idx4 t).2.1]
  | ⟨2, _⟩ => show win0_4.index t 2 * 4096 + s.val = s.val; rw [(idx4 t).2.2]; omega

/-! ## What a grid point writes back -/

/-- The output array's contents: the kernel's formula at every head, channel and position. -/
def outArr : S8x64x4096.Idx → EReal := fun i => kernelOut (a0 m c) (a1 m c) (a2 m c) (i 0) (i 1) (i 2)

/-- The bias of the blocks is the head's bias. -/
theorem bias_blk (t : Fin cfg0.N) (o : Fin 192) :
    bias (iblk m c 1 t) (iblk m c 0 t) o = AttnSpec.bias (a1 m c) (a2 m c) (hd t) o := by
  unfold bias AttnSpec.bias
  exact Finset.sum_congr rfl fun d _ => by rw [blk1_apply, blk0_apply]

/-- The logits of the blocks are the head's logits at the point's positions. -/
theorem logit_blk (t : Fin cfg0.N) (i : Fin 2048) :
    logit (iblk m c 1 t) (iblk m c 0 t) (iblk m c 2 t) (iblk m c 3 t) i = kLogit (a0 m c) (a1 m c) (a2 m c) (hd t) (pos t i) := by
  funext s
  unfold logit kLogit tok
  exact Finset.sum_congr rfl fun j _ => by rw [blk2_apply, blk3_apply, bias_blk, bias_blk]

/-- A rank-three block's origin is zero on every axis. -/
theorem zero3 : (![0, 0, 0] : Fin 3 → Nat) = fun _ => 0 := funext fun a => by fin_cases a <;> rfl
/-- The rank-two one. -/
theorem zero2 : (![0, 0] : Fin 2 → Nat) = fun _ => 0 := funext fun a => by fin_cases a <;> rfl

/-- The body's result at a grid point, at a channel and a position of the block. -/
theorem out_apply (t : Fin cfg0.N) (j : Fin 64) (i : Fin 2048) :
    (out0_5 (iblk m c 0 t) (iblk m c 1 t) (iblk m c 2 t) (iblk m c 3 t) (iblk m c 4 t) : S1x64x2048.Idx → EReal) (ix3 0 j i)
      = kernelOut (a0 m c) (a1 m c) (a2 m c) (hd t) j (pos t i) := by
  unfold out0_5
  rw [View.canon_unit_zero zero3, View.ld_unit_zero zero3, View.ld_unit_zero zero2, View.ld_unit_zero zero3,
    View.ld_unit_zero zero3, View.ld_unit_zero zero3, block_apply, logit_blk]
  unfold kernelOut tok
  simp only [blk4_apply, bias_blk]

/-- What point `t` writes back is its block of the output array's contents. -/
theorem flushed_eq (t : Fin cfg0.N) :
    (dats m 0 c).flushed 5 t = (win0_5.blk t).view.read (Elt Ideal) (outArr m c) := by
  show (cfg0.win 5).cut (grid0.coords t) ((dats m 0 c).after 5 t) = _
  rw [after0_5]
  funext y
  obtain ⟨u, j, i, rfl⟩ : ∃ (u : Fin 1) (j : Fin 64) (i : Fin 2048), y = ix3 u j i := ⟨y 0, y 1, y 2, eq_ix3 y⟩
  obtain rfl : u = 0 := Subsingleton.elim _ _
  refine (out_apply m c t j i).trans ?_
  show _ = outArr m c ((win0_5.rect t).emb (ix3 0 j i))
  have e : (win0_5.rect t).emb (ix3 0 j i) = (ix3 (hd t) j (pos t i) : S8x64x4096.Idx) := funext fun a => Fin.ext (by
    refine (Window.rect_emb_val win0_5 t _ a).trans ?_
    match a with
    | ⟨0, _⟩ => show win0_5.index t 0 * 1 + 0 = t.val / 2; rw [(idx5 t).1]; omega
    | ⟨1, _⟩ => show win0_5.index t 1 * 64 + j.val = j.val; rw [(idx5 t).2.1]; omega
    | ⟨2, _⟩ => show win0_5.index t 2 * 2048 + i.val = t.val % 2 * 2048 + i.val; rw [(idx5 t).2.2])
  rw [e]
  rfl

/-- Every index of the output array is in the block of some point: the sixteen blocks tile it. -/
theorem cover (i : S8x64x4096.Idx) :
    ∃ t : Fin cfg0.N, (cfg0.win 5).flush t = true ∧ i ∈ ((cfg0.win 5).blk t).view.set := by
  have h0 : (i 0).val < 8 := (i 0).isLt
  have h1 : (i 1).val < 64 := (i 1).isLt
  have h2 : (i 2).val < 4096 := (i 2).isLt
  have hN : cfg0.N = 16 := N_0
  refine ⟨⟨(i 0).val * 2 + (i 2).val / 2048, by omega⟩, flush0_5 _, ?_⟩
  generalize ht : (⟨(i 0).val * 2 + (i 2).val / 2048, by omega⟩ : Fin cfg0.N) = t
  have hv : t.val = (i 0).val * 2 + (i 2).val / 2048 := by rw [← ht]
  show i ∈ ((View.whole main_v3).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [(idx5 t).1]; omega
  | ⟨1, _⟩ =>
    show win0_5.index t 1 * 64 ≤ (i 1).val ∧ (i 1).val < win0_5.index t 1 * 64 + 64
    rw [(idx5 t).2.1]; omega
  | ⟨2, _⟩ =>
    show win0_5.index t 2 * 2048 ≤ (i 2).val ∧ (i 2).val < win0_5.index t 2 * 2048 + 2048
    rw [(idx5 t).2.2]; omega

/-- So the output array ends holding the kernel's formula. -/
theorem final_out : (dats m 0 c).arrAt 5 cfg0.N = outArr m c :=
  (dats m 0 c).arrAt_eq_of_cover 5 (outArr m c) (fun t _ => flushed_eq m c t) cover

/-! ## The result -/

/-- The result array's contents: the output array's, the heads' channels laid out as 512 rows. -/
def result : S1x512x4096.Idx → EReal := shapeCast S1x512x4096 (outArr m c) shapeCasts_S8x64x4096_S1x512x4096

/-- The reshape after the call leaves the result. -/
theorem tail_eq : Pipeline.afterTail₀ cfgs (dats m) 0 (V0 m) [hostOps1] c main_v4 = result m c := by
  unfold Pipeline.afterTail₀
  show StableHlo.after hostOps1 _ (Proc.devRef .tc main_v4) = _
  after_results
  have h := Pipeline.withArrays_arr_shared (cfgs 0).spec c (V0 m c) (fun w => (dats m 0 c).arrAt w (cfgs 0).N)
    ((dats m 0 c).arrAt_sharedIn sharedIn0 (V0 m c) (A_eq m c) _) (5 : Fin 6)
  exact congrArg (fun x : S8x64x4096.Idx → EReal => shapeCast S1x512x4096 x shapeCasts_S8x64x4096_S1x512x4096)
    (h.trans (final_out m c))

/-- THE KERNEL'S RUN: the result array ends at the kernel's formula, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.AttnKernel

end
-- ==== Proof.RefValue.lean ====
/- What the reference computes, read at an index: the biased queries, keys and values, the scaled logits, their maximum,
   the softmax's weights and the weighted sum of the values, head by head. -/
module

public import proofs.«01_k».proof.Proof.Spec
public import proofs.«01_k».proof.Proof.Consts
public import proofs.«01_k».proof.Proof.Gen.ReferenceIdeal.Read
public import Idealize.ShloMosaic.Lib.KernelVsHost

@[expose] public section

noncomputable section

namespace Cert.AttnReference

open Idealize.ShloMosaic Cert.ReferenceIdeal Cert.ReferenceIdeal.Gen Cert.ReferenceIdeal.Read Cert.AttnMath
open Idealize.ShloMosaic.ValueIdx
open Cert.AttnSpec

variable (x0 : FVec Ideal S1x1536x4096 .f32) (x1 : FVec Ideal S512 .f32) (x2 : FVec Ideal S1536x512 .f32)

/-- The tokens split by head, at a head, a row and a position. -/
theorem split_apply (h : Fin 8) (o : Fin 192) (t : Fin 4096) : val_main_v3 (F := Ideal) x0 (ix3 h o t) = x0 (ix3 0 (row h o) t) := by
  unfold val_main_v3
  exact shapeCast_apply _ _ _ _ (by
    rw [Shape.rowMajor_val_three, Shape.rowMajor_val_three]
    show (0 * 1536 + (h.val * 192 + o.val)) * 4096 + t.val = (h.val * 192 + o.val) * 4096 + t.val
    omega)

/-- The projection of the broadcast embedding, at a position and a row: the same at every position. -/
theorem proj_apply (r : Fin 1536) (t : Fin 4096) :
    val_main_v9 (F := Ideal) x1 x2 (ix3 0 t r) = ∑ d : Fin 512, x2 (ix2 r d) * x1 (ix1 d) := by
  rw [val_main_v9_apply]
  refine Finset.sum_congr rfl fun d _ => ?_
  rw [val_main_v8_apply, val_main_v7_apply, mul_comm]
  exact congrArg₂ (fun a b => x2 a * x1 b)
    (funext fun a => match a with | ⟨0, _⟩ => rfl | ⟨1, _⟩ => rfl) (funext fun a => match a with | ⟨0, _⟩ => rfl)

/-- The bias split by head. -/
theorem bias_apply (h : Fin 8) (o : Fin 192) (t : Fin 4096) : val_main_v11 (F := Ideal) x1 x2 (ix3 h o t) = bias x1 x2 h o := by
  unfold val_main_v11
  refine (shapeCast_apply _ _ _ (ix3 0 (row h o) t : S1x1536x4096.Idx) (by
    rw [Shape.rowMajor_val_three, Shape.rowMajor_val_three]
    show (0 * 1536 + (h.val * 192 + o.val)) * 4096 + t.val = (h.val * 192 + o.val) * 4096 + t.val
    omega)).trans ?_
  rw [val_main_v10_apply]
  refine Eq.trans (congrArg (val_main_v9 (F := Ideal) x1 x2) ?_) (proj_apply x1 x2 (row h o) t)
  exact funext fun a => match a with | ⟨0, _⟩ => rfl | ⟨1, _⟩ => rfl | ⟨2, _⟩ => rfl

/-- The queries' slice reads row `c` of a head. -/
theorem qIdx (h : Fin 8) (c : Fin 64) (t : Fin 4096) : idx_main_v4 (ix3 h c t) = ix3 h (qRow c) t :=
  funext fun a => match a with | ⟨0, _⟩ => rfl | ⟨1, _⟩ => rfl | ⟨2, _⟩ => rfl
/-- The keys' slice reads row `64 + c`. -/
theorem kIdx (h : Fin 8) (c : Fin 64) (t : Fin 4096) : idx_main_v5 (ix3 h c t) = ix3 h (kRow c) t :=
  funext fun a => match a with | ⟨0, _⟩ => rfl | ⟨1, _⟩ => rfl | ⟨2, _⟩ => rfl
/-- The values' slice reads row `128 + c`. -/
theorem vIdx (h : Fin 8) (c : Fin 64) (t : Fin 4096) : idx_main_v6 (ix3 h c t) = ix3 h (vRow c) t :=
  funext fun a => match a with | ⟨0, _⟩ => rfl | ⟨1, _⟩ => rfl | ⟨2, _⟩ => rfl

/-- The biased queries. -/
theorem q_apply (h : Fin 8) (c : Fin 64) (t : Fin 4096) :
    val_main_v15 (F := Ideal) x0 x1 x2 (ix3 h c t) = tok x0 x1 x2 h (qRow c) t := by
  rw [val_main_v15_apply, val_main_v4_apply, val_main_v12_apply]
  show val_main_v3 (F := Ideal) x0 (idx_main_v4 (ix3 h c t)) + val_main_v11 (F := Ideal) x1 x2 (idx_main_v4 (ix3 h c t)) = _
  rw [qIdx, split_apply, bias_apply]
  rfl

/-- The biased keys. -/
theorem k_apply (h : Fin 8) (c : Fin 64) (t : Fin 4096) :
    val_main_v18 (F := Ideal) x0 x1 x2 (ix3 h c t) = tok x0 x1 x2 h (kRow c) t := by
  rw [val_main_v18_apply, val_main_v5_apply, val_main_v13_apply]
  show val_main_v3 (F := Ideal) x0 (idx_main_v5 (ix3 h c t)) + val_main_v11 (F := Ideal) x1 x2 (idx_main_v5 (ix3 h c t)) = _
  rw [kIdx, split_apply, bias_apply]
  rfl

/-- The biased values. -/
theorem v_apply (h : Fin 8) (c : Fin 64) (t : Fin 4096) :
    val_main_v33 (F := Ideal) x0 x1 x2 (ix3 h c t) = tok x0 x1 x2 h (vRow c) t := by
  rw [val_main_v33_apply, val_main_v6_apply, val_main_v14_apply]
  show val_main_v3 (F := Ideal) x0 (idx_main_v6 (ix3 h c t)) + val_main_v11 (F := Ideal) x1 x2 (idx_main_v6 (ix3 h c t)) = _
  rw [vIdx, split_apply, bias_apply]
  rfl

/-- The scale: one over the root of the root of sixty-four. -/
theorem scale_apply (i : S_.Idx) : val_main_v2 (F := Ideal) i = sigma := by
  rw [val_main_v2_apply, val_main_v1_apply, val_main_v0_apply, val_main_cst_apply, val_main_cst_0_apply]
  show Ideal.div (Ideal.ofBits .f32 0x3F800000#32) (Ideal.sqrt (Ideal.sqrt (Ideal.ofBits .f32 0x42800000#32))) = _
  rw [AttnConsts.one_f32, AttnConsts.sixtyfour_f32]
  rfl

/-- The logits. -/
theorem logit_apply (h : Fin 8) (t s : Fin 4096) : val_main_v21 (F := Ideal) x0 x1 x2 (ix3 h t s) = rLogit x0 x1 x2 h t s := by
  rw [val_main_v21_apply]
  unfold rLogit
  refine Finset.sum_congr rfl fun c _ => ?_
  have el : lidx_main_v21 (ix3 h t s) c = ix3 h c t := funext fun a => match a with | ⟨0, _⟩ => rfl | ⟨1, _⟩ => rfl | ⟨2, _⟩ => rfl
  have er : ridx_main_v21 (ix3 h t s) c = ix3 h c s := funext fun a => match a with | ⟨0, _⟩ => rfl | ⟨1, _⟩ => rfl | ⟨2, _⟩ => rfl
  rw [el, er, val_main_v17_apply, val_main_v20_apply, val_main_v16_apply, val_main_v19_apply, scale_apply, q_apply, k_apply]
  rfl

/-- The reduction's maximum of a row of logits. -/
theorem max_apply (h : Fin 8) (t : Fin 4096) : val_main_v22 (F := Ideal) x0 x1 x2 (ix2 h t) = rowMax (rLogit x0 x1 x2 h t) := by
  unfold val_main_v22 val_main_cst_1
  have hr : S8x4096x4096.Reduces [2] S8x4096 := by decide
  have hh := hostReduce_maximumf_eq_multiReduction (F := Ideal) (val_main_v21 (F := Ideal) x0 x1 x2) 0xFF800000#32
    reducesTo_S8x4096x4096_S8x4096_d2 h_S_ hr (.inl rfl) rfl
  rw [hh]
  refine (Ideal.multiReduction_maximumf_single (a := (2 : Fin S8x4096x4096.rank)) (val_main_v21 (F := Ideal) x0 x1 x2) _ _ (.inl rfl) rfl
    (ix2 h t)).trans ?_
  show (Finset.univ : Finset (Fin 4096)).fold max (Ideal.ofBits .f32 0xFF800000#32) _ = _
  rw [AttnConsts.neg_inf_f32]
  unfold rowMax
  refine congrArg (fun f => (Finset.univ : Finset (Fin 4096)).fold max ⊥ f) (funext fun s => ?_)
  refine Eq.trans (congrArg (val_main_v21 (F := Ideal) x0 x1 x2) ?_) (logit_apply x0 x1 x2 h t s)
  exact funext fun a => match a with | ⟨0, _⟩ => rfl | ⟨1, _⟩ => rfl | ⟨2, _⟩ => rfl

/-- An exponential: of a logit less its row's maximum. -/
theorem exp_apply (h : Fin 8) (t s : Fin 4096) :
    val_main_v28 (F := Ideal) x0 x1 x2 (ix3 h t s) = Ideal.exp (rLogit x0 x1 x2 h t s - rowMax (rLogit x0 x1 x2 h t)) := by
  have e : idx_main_v25 (idx_main_v26 (ix3 h t s)) = ix2 h t := funext fun a => match a with | ⟨0, _⟩ => rfl | ⟨1, _⟩ => rfl
  have hm : val_main_v26 (F := Ideal) x0 x1 x2 (ix3 h t s) = rowMax (rLogit x0 x1 x2 h t) := by
    rw [val_main_v26_apply, val_main_v25_apply, e, val_main_v24_apply, val_main_v23_apply, val_main_cst_2_apply, max_apply]
    show max (Ideal.ofBits .f32 0xFF800000#32) _ = _
    rw [AttnConsts.neg_inf_f32]
    exact max_bot_left _
  rw [val_main_v28_apply, val_main_v27_apply, hm, logit_apply]
  rfl

/-- The sum of a row's exponentials. -/
theorem sum_apply (h : Fin 8) (t : Fin 4096) : val_main_v29 (F := Ideal) x0 x1 x2 (ix2 h t)
    = ∑ s : Fin 4096, Ideal.exp (rLogit x0 x1 x2 h t s - rowMax (rLogit x0 x1 x2 h t)) := by
  rw [val_main_v29_apply, val_main_cst_3_apply]
  show Ideal.ofBits .f32 0x00000000#32 + _ = _
  rw [AttnConsts.zero_f32, zero_add]
  refine Finset.sum_congr rfl fun s _ => ?_
  refine Eq.trans (congrArg (val_main_v28 (F := Ideal) x0 x1 x2) ?_) (exp_apply x0 x1 x2 h t s)
  exact funext fun a => match a with | ⟨0, _⟩ => rfl | ⟨1, _⟩ => rfl | ⟨2, _⟩ => rfl

/-- A softmax weight. -/
theorem weight_apply (h : Fin 8) (t s : Fin 4096) : val_main_v32 (F := Ideal) x0 x1 x2 (ix3 h t s)
    = Ideal.div (Ideal.exp (rLogit x0 x1 x2 h t s - rowMax (rLogit x0 x1 x2 h t)))
        (∑ s : Fin 4096, Ideal.exp (rLogit x0 x1 x2 h t s - rowMax (rLogit x0 x1 x2 h t))) := by
  have e : idx_main_v30 (idx_main_v31 (ix3 h t s)) = ix2 h t := funext fun a => match a with | ⟨0, _⟩ => rfl | ⟨1, _⟩ => rfl
  rw [val_main_v32_apply, val_main_v31_apply, val_main_v30_apply, e, sum_apply, exp_apply]
  rfl

/-- The reference's weighted sums, at a head, a channel and a position. -/
theorem out_apply (h : Fin 8) (c : Fin 64) (t : Fin 4096) : val_main_v34 (F := Ideal) x0 x1 x2 (ix3 h c t) = refOut x0 x1 x2 h c t := by
  rw [val_main_v34_apply]
  unfold refOut
  refine Finset.sum_congr rfl fun s _ => ?_
  have el : lidx_main_v34 (ix3 h c t) s = ix3 h c s := funext fun a => match a with | ⟨0, _⟩ => rfl | ⟨1, _⟩ => rfl | ⟨2, _⟩ => rfl
  have er : ridx_main_v34 (ix3 h c t) s = ix3 h t s := funext fun a => match a with | ⟨0, _⟩ => rfl | ⟨1, _⟩ => rfl | ⟨2, _⟩ => rfl
  rw [el, er, v_apply, weight_apply]

/-- THE REFERENCE'S RESULT: its formula at every head, channel and position, the heads' channels laid out as 512 rows. -/
theorem result_eq : val_main_v35 (F := Ideal) x0 x1 x2
    = shapeCast S1x512x4096 (fun i : S8x64x4096.Idx => refOut x0 x1 x2 (i 0) (i 1) (i 2)) shapeCasts_S8x64x4096_S1x512x4096 := by
  unfold val_main_v35
  refine congrArg (fun x : S8x64x4096.Idx → EReal => shapeCast S1x512x4096 x shapeCasts_S8x64x4096_S1x512x4096) (funext fun i => ?_)
  obtain ⟨h, c, t, rfl⟩ : ∃ (h : Fin 8) (c : Fin 64) (t : Fin 4096), i = ix3 h c t := ⟨i 0, i 1, i 2, eq_ix3 i⟩
  exact out_apply x0 x1 x2 h c t

end Cert.AttnReference

end
-- ==== Proof.Pre.lean ====
/- The precondition read at an index: the queries' and keys' rows of the tokens and of the weights, and the embedding,
   hold real numbers. -/
module

public import proofs.«01_k».proof.Pre_logits_finite
public import proofs.«01_k».proof.Proof.Spec
public import proofs.«01_k».proof.Proof.Consts
public import Idealize.ShloMosaic.Lib.Pipeline.Value
public import Idealize.ShloMosaic.Lib.ValueIdx
public import Idealize.ShloMosaic.PureOps.Ideal.Laws

@[expose] public section

noncomputable section

namespace Cert.AttnPre

open Idealize.ShloMosaic Cert.Pre_logits_finite Cert.AttnMath
open Idealize.ShloMosaic.ValueIdx
open Cert.AttnSpec (row)

/-- The predicate's shape relations hold. -/
theorem facts : Cert.Pre_logits_finite.Facts where
  shapeCasts_S1x1536x4096_S8x192x4096 := by decide
  slices_S8x192x4096_S8x128x4096_0_0_0 := by decide
  shapeCasts_S1536x512_S8x192x512 := by decide
  slices_S8x192x512_S8x128x512_0_0_0 := by decide
  bcast_S_S8x128x4096 := by decide
  bcast_S_S8x128x512 := by decide
  bcast_S_S512 := by decide

/-- A magnitude compared below the word of `+∞` is a real number's. -/
theorem real_of_below_inf (a : EReal)
    (h : FloatOps.cmpf (F := Ideal) (φ := .f32) .olt (FloatOps.hostAbsf (F := Ideal) (φ := .f32) a) (FloatOps.ofBits (F := Ideal) .f32 0x7F800000#32) = 1#1) :
    ∃ r : ℝ, a = r := by
  refine exists_real_of_abs_lt a ?_
  change Ideal.cmp .olt (max a (-a)) (Ideal.ofBits .f32 0x7F800000#32) = 1#1 at h
  rw [AttnConsts.pos_inf_f32] at h
  by_contra hn
  have : Ideal.cmp .olt (max a (-a)) ⊤ = 0#1 := by simp [Ideal.cmp, hn]
  rw [this] at h
  exact absurd h (by decide)

variable (x0 : FVec Ideal S1x1536x4096 .f32) (x1 : FVec Ideal S512 .f32) (x2 : FVec Ideal S1536x512 .f32)

/-- A query's or key's row of a head, among the head's 192. -/
abbrev low (o : Fin 128) : Fin 192 := ⟨o.val, by omega⟩

variable [hF : Cert.Pre_logits_finite.Facts]

/-- The queries' and keys' tokens are real. -/
theorem real_tokens (h : (fn (F := Ideal) x0 x1 x2).1 = fun _ => 1#1) (g : Fin 8) (o : Fin 128) (t : Fin 4096) :
    ∃ r : ℝ, x0 (ix3 0 (row g (low o)) t) = r := by
  refine real_of_below_inf _ (Eq.trans ?_ (congrFun h (ix3 g o t)))
  have e : extractStridedSlice S8x128x4096 ![0, 0, 0] (shapeCast S8x192x4096 x0 hF.shapeCasts_S1x1536x4096_S8x192x4096)
      hF.slices_S8x192x4096_S8x128x4096_0_0_0 (ix3 g o t) = x0 (ix3 0 (row g (low o)) t) := by
    refine (extractStridedSlice_apply ![0, 0, 0] _ hF.slices_S8x192x4096_S8x128x4096_0_0_0 (ix3 g o t) (ix3 g (low o) t) (fun a => match a with
      | ⟨0, _⟩ => by show g.val = 0 + g.val; omega
      | ⟨1, _⟩ => by show o.val = 0 + o.val; omega
      | ⟨2, _⟩ => by show t.val = 0 + t.val; omega)).trans ?_
    exact shapeCast_apply _ _ _ _ (by
      rw [Shape.rowMajor_val_three, Shape.rowMajor_val_three]
      show (0 * 1536 + (g.val * 192 + o.val)) * 4096 + t.val = (g.val * 192 + o.val) * 4096 + t.val
      omega)
  rw [← e]
  rfl

/-- The queries' and keys' weights are real. -/
theorem real_weights (h : (fn (F := Ideal) x0 x1 x2).2.1 = fun _ => 1#1) (g : Fin 8) (o : Fin 128) (d : Fin 512) :
    ∃ r : ℝ, x2 (ix2 (row g (low o)) d) = r := by
  refine real_of_below_inf _ (Eq.trans ?_ (congrFun h (ix3 g o d)))
  have e : extractStridedSlice S8x128x512 ![0, 0, 0] (shapeCast S8x192x512 x2 hF.shapeCasts_S1536x512_S8x192x512)
      hF.slices_S8x192x512_S8x128x512_0_0_0 (ix3 g o d) = x2 (ix2 (row g (low o)) d) := by
    refine (extractStridedSlice_apply ![0, 0, 0] _ hF.slices_S8x192x512_S8x128x512_0_0_0 (ix3 g o d) (ix3 g (low o) d) (fun a => match a with
      | ⟨0, _⟩ => by show g.val = 0 + g.val; omega
      | ⟨1, _⟩ => by show o.val = 0 + o.val; omega
      | ⟨2, _⟩ => by show d.val = 0 + d.val; omega)).trans ?_
    exact shapeCast_apply _ _ _ _ (by
      rw [Shape.rowMajor_val_three, Shape.rowMajor_val_two]
      rfl)
  rw [← e]
  rfl

/-- The embedding is real. -/
theorem real_embedding (h : (fn (F := Ideal) x0 x1 x2).2.2 = fun _ => 1#1) (d : Fin 512) : ∃ r : ℝ, x1 (ix1 d) = r :=
  real_of_below_inf _ (congrFun h (ix1 d))

/-- So under the precondition a head's biased queries and keys are real. -/
theorem real_tok (h : (fn (F := Ideal) x0 x1 x2).1 = (fun _ => 1#1) ∧ (fn (F := Ideal) x0 x1 x2).2.1 = (fun _ => 1#1)
      ∧ (fn (F := Ideal) x0 x1 x2).2.2 = (fun _ => 1#1)) (g : Fin 8) (o : Fin 128) (t : Fin 4096) :
    ∃ r : ℝ, AttnSpec.tok x0 x1 x2 g (low o) t = r :=
  AttnSpec.exists_real_tok x0 x1 x2 g (low o) t (real_tokens x0 x1 x2 h.1 g o t) (real_embedding x0 x1 x2 h.2.2)
    (real_weights x0 x1 x2 h.2.1 g o)

/-- So under the precondition the kernel's formula is the reference's. -/
theorem kernelOut_eq_refOut (h : (fn (F := Ideal) x0 x1 x2).1 = (fun _ => 1#1) ∧ (fn (F := Ideal) x0 x1 x2).2.1 = (fun _ => 1#1)
      ∧ (fn (F := Ideal) x0 x1 x2).2.2 = (fun _ => 1#1)) (g : Fin 8) (c : Fin 64) (t : Fin 4096) :
    AttnSpec.kernelOut x0 x1 x2 g c t = AttnSpec.refOut x0 x1 x2 g c t :=
  AttnSpec.kernelOut_eq_refOut x0 x1 x2 g
    (fun j s => real_tok x0 x1 x2 h g ⟨j.val, by omega⟩ s) (fun j s => real_tok x0 x1 x2 h g ⟨64 + j.val, by omega⟩ s) c t

end Cert.AttnPre

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelArray
public import proofs.«01_k».proof.Proof.RefValue
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem

/-- The reference's run: the arguments unchanged, every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- Under the precondition the reference's term at the kernel's arguments is the kernel's result. -/
theorem result_eq [hF : Cert.Pre_logits_finite.Facts]
    (m : (ℓ : Loc Cert.KernelIdeal.nD Cert.KernelIdeal.τ Cert.KernelIdeal.sig) → Buf (Elt Ideal) ℓ) (hpre : Cert.Pre_KernelIdeal_logits_finite m)
    (c : Dev Cert.KernelIdeal.nD) :
    Cert.ReferenceIdeal.Read.val_main_v35 (F := Ideal) (Cert.AttnKernel.a0 m c) (Cert.AttnKernel.a1 m c) (Cert.AttnKernel.a2 m c)
      = Cert.AttnKernel.result m c := by
  rw [Cert.AttnReference.result_eq]
  unfold Cert.AttnKernel.result Cert.AttnKernel.outArr
  refine congrArg (fun x : Cert.KernelIdeal.S8x64x4096.Idx → EReal =>
    shapeCast Cert.KernelIdeal.S1x512x4096 x Cert.KernelIdeal.Gen.shapeCasts_S8x64x4096_S1x512x4096) (funext fun i => ?_)
  exact (Cert.AttnPre.kernelOut_eq_refOut _ _ _ (hpre c) (i 0) (i 1) (i 2)).symm

/-- The kernel and the reference end with equal results. -/
theorem algebraic [hF : Cert.Pre_logits_finite.Facts] :
    Cert.algebraic_KernelIdeal_ReferenceIdeal_pre_logits_finite (hKernelIdeal := Cert.KernelIdeal.Gen.facts)
      (hReferenceIdeal := Cert.ReferenceIdeal.Gen.facts) (hPre_logits_finite := hF) := by
  intro m ρ m' ρ' hpre hagree
  refine ⟨fun c => Cert.AttnKernel.result m c, Cert.AttnKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2]
  exact result_eq m hpre c

/-- Every claim of the certificate. -/
theorem claim : Cert.Claim :=
  ⟨Cert.Kernel.Gen.facts, Cert.KernelIdeal.Gen.facts, Cert.ReferenceIdeal.Gen.facts, Cert.AttnPre.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    IdealRules.named_const.statement Cert.KernelIdeal.κ "scale2" .f32 0x3E38AA3B#32 (((Real.log 2)⁻¹ * (Real.sqrt 64)⁻¹ : ℝ) : EReal) rfl,
    algebraic (hF := Cert.AttnPre.facts)⟩

end Cert.Proof

end
